-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scaling_distributes [hPre_scaling_distributes : Cert.Pre_scaling_distributes.Facts] (m : (ℓ : Loc Cert.KernelIdeal.nD Cert.KernelIdeal.τ Cert.KernelIdeal.sig) → Buf (Elt Ideal) ℓ) : Prop :=
  ∀ c : Dev Cert.KernelIdeal.nD,
    (Cert.Pre_scaling_distributes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scaling_distributes [hPre_scaling_distributes : Cert.Pre_scaling_distributes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scaling_distributes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scaling_distributes [hKernelIdeal : Cert.KernelIdeal.Facts] [hPre_scaling_distributes : Cert.Pre_scaling_distributes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scaling_distributes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scaling_distributes [hReferenceIdeal : Cert.ReferenceIdeal.Facts] [hPre_scaling_distributes : Cert.Pre_scaling_distributes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scaling_distributes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scaling_distributes [hKernelIdeal : Cert.KernelIdeal.Facts] [hReferenceIdeal : Cert.ReferenceIdeal.Facts] [hPre_scaling_distributes : Cert.Pre_scaling_distributes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scaling_distributes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scaling_distributes : Cert.Pre_scaling_distributes.Facts),
    quiescent_Kernel (hKernel := hKernel)
    ∧ quiescent_KernelIdeal (hKernelIdeal := hKernelIdeal)
    ∧ quiescent_KernelIdeal_pre_scaling_distributes (hKernelIdeal := hKernelIdeal) (hPre_scaling_distributes := hPre_scaling_distributes)
    ∧ quiescent_ReferenceIdeal (hReferenceIdeal := hReferenceIdeal)
    ∧ quiescent_ReferenceIdeal_pre_scaling_distributes (hReferenceIdeal := hReferenceIdeal) (hPre_scaling_distributes := hPre_scaling_distributes)
    ∧ preserves_Kernel_KernelIdeal
    ∧ algebraic_KernelIdeal_ReferenceIdeal_pre_scaling_distributes (hKernelIdeal := hKernelIdeal) (hReferenceIdeal := hReferenceIdeal) (hPre_scaling_distributes := hPre_scaling_distributes)
-- ==== Pre_scaling_distributes.lean ====
abbrev S32768x2048 : Shape := ⟨2, ![32768, 2048]⟩
abbrev S32768 : Shape := ⟨1, ![32768]⟩
abbrev S8x2048x16 : Shape := ⟨3, ![8, 2048, 16]⟩
abbrev S8x16x2048 : Shape := ⟨3, ![8, 16, 2048]⟩
abbrev S8 : Shape := ⟨1, ![8]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S8x2048x16 : S_.BroadcastsInDim S8x2048x16 (![] : Fin 0 → Fin S8x2048x16.rank)
  reducesTo_S8x2048x16_S_d0_1_2 : S8x2048x16.ReducesTo [0, 1, 2] S_
  bcast_S_S8x16x2048 : S_.BroadcastsInDim S8x16x2048 (![] : Fin 0 → Fin S8x16x2048.rank)
  reducesTo_S8x16x2048_S_d0_1_2 : S8x16x2048.ReducesTo [0, 1, 2] S_
  bcast_S_S8 : S_.BroadcastsInDim S8 (![] : Fin 0 → Fin S8.rank)

variable [Facts]

def fn_part1 {F : FTy → Type} [FloatOps F] (main_arg4 : FVec F S8 .f32) (main_v13 : IVec S_ 1) (main_v16 : IVec S8 1) : IVec S8 1 :=
  let main_cst_5 : FVec F S_ .f32 := constant S_ .f32 0x00000000#32
  let main_v17 : FVec F S8 .f32 := broadcastInDim S8 ![] bcast_S_S8 main_cst_5
  let main_v18 : IVec S8 1 := cmpf .oge main_arg4 main_v17
  let main_v19 : IVec S8 1 := broadcastInDim S8 ![] bcast_S_S8 main_v13
  let main_v20 : IVec S8 1 := ori main_v18 main_v19
  let main_v21 : IVec S8 1 := andi main_v16 main_v20
  main_v21

def fn {F : FTy → Type} [FloatOps F] (main_arg0 : FVec F S32768x2048 .f32) (main_arg1 : IVec S32768 32) (main_arg2 : FVec F S8x2048x16 .f32) (main_arg3 : FVec F S8x16x2048 .f32) (main_arg4 : FVec F S8 .f32) : IVec S8 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S8x2048x16 .f32 := Host.absf main_arg2
  let main_cst_0 : FVec F S_ .f32 := constant S_ .f32 0x7F800000#32
  let main_v5 : FVec F S8x2048x16 .f32 := broadcastInDim S8x2048x16 ![] bcast_S_S8x2048x16 main_cst_0
  let main_v6 : IVec S8x2048x16 1 := cmpf .olt main_v4 main_v5
  let main_c_1 : IVec S_ 1 := constantI S_ 1 1#1
  let main_v7 : IVec S_ 1 := (fun x v => Host.reduce IntOp.andi x v reducesTo_S8x2048x16_S_d0_1_2 h_S_) main_v6 main_c_1
  let main_v8 : IVec S_ 1 := andi main_v3 main_v7
  let main_v9 : FVec F S8x16x2048 .f32 := Host.absf main_arg3
  let main_cst_2 : FVec F S_ .f32 := constant S_ .f32 0x7F800000#32
  let main_v10 : FVec F S8x16x2048 .f32 := broadcastInDim S8x16x2048 ![] bcast_S_S8x16x2048 main_cst_2
  let main_v11 : IVec S8x16x2048 1 := cmpf .olt main_v9 main_v10
  let main_c_3 : IVec S_ 1 := constantI S_ 1 1#1
  let main_v12 : IVec S_ 1 := (fun x v => Host.reduce IntOp.andi x v reducesTo_S8x16x2048_S_d0_1_2 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_v13 main_v16
-- ==== Kernel.lean ====
abbrev S32768x2048 : Shape := ⟨2, ![32768, 2048]⟩
abbrev S32768 : Shape := ⟨1, ![32768]⟩
abbrev S8x2048x16 : Shape := ⟨3, ![8, 2048, 16]⟩
abbrev S8x16x2048 : Shape := ⟨3, ![8, 16, 2048]⟩
abbrev S8 : Shape := ⟨1, ![8]⟩
abbrev S2048x8x16 : Shape := ⟨3, ![2048, 8, 16]⟩
abbrev S2048x128 : Shape := ⟨2, ![2048, 128]⟩
abbrev S8x1x1 : Shape := ⟨3, ![8, 1, 1]⟩
abbrev S128x2048 : Shape := ⟨2, ![128, 2048]⟩
abbrev S32768x1 : Shape := ⟨2, ![32768, 1]⟩
abbrev S1024x1 : Shape := ⟨2, ![1024, 1]⟩
abbrev S1024x2048 : Shape := ⟨2, ![1024, 2048]⟩
abbrev S1024x128 : Shape := ⟨2, ![1024, 128]⟩

abbrev nBuf : Space → Nat
  | .hbm => 15
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S8x2048x16, .f32⟩
  | .hbm, ⟨3, _⟩ => ⟨S8x16x2048, .f32⟩
  | .hbm, ⟨4, _⟩ => ⟨S8, .f32⟩
  | .hbm, ⟨5, _⟩ => ⟨S2048x8x16, .f32⟩
  | .hbm, ⟨6, _⟩ => ⟨S2048x128, .f32⟩
  | .hbm, ⟨7, _⟩ => ⟨S8x1x1, .f32⟩
  | .hbm, ⟨8, _⟩ => ⟨S8x16x2048, .f32⟩
  | .hbm, ⟨9, _⟩ => ⟨S8x16x2048, .f32⟩
  | .hbm, ⟨10, _⟩ => ⟨S128x2048, .f32⟩
  | .hbm, ⟨11, _⟩ => ⟨S2048x128, .bf16⟩
  | .hbm, ⟨12, _⟩ => ⟨S128x2048, .bf16⟩
  | .hbm, ⟨13, _⟩ => ⟨S32768x1, .i32⟩
  | .hbm, ⟨14, _⟩ => ⟨S32768x2048, .f32⟩
  | .local _ .vmem, ⟨0, _⟩ => ⟨S1024x1, .i32⟩
  | .local _ .vmem, ⟨1, _⟩ => ⟨S1024x1, .i32⟩
  | .local _ .vmem, ⟨2, _⟩ => ⟨S1024x2048, .f32⟩
  | .local _ .vmem, ⟨3, _⟩ => ⟨S1024x2048, .f32⟩
  | .local _ .vmem, ⟨4, _⟩ => ⟨S2048x128, .bf16⟩
  | .local _ .vmem, ⟨5, _⟩ => ⟨S128x2048, .bf16⟩
  | .local _ .vmem, ⟨6, _⟩ => ⟨S1024x2048, .f32⟩
  | .local _ .vmem, ⟨7, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x2048 : Shape := ⟨2, ![32768, 2048]⟩
abbrev S32768 : Shape := ⟨1, ![32768]⟩
abbrev S8x2048x16 : Shape := ⟨3, ![8, 2048, 16]⟩
abbrev S8x16x2048 : Shape := ⟨3, ![8, 16, 2048]⟩
abbrev S8 : Shape := ⟨1, ![8]⟩
abbrev S_ : Shape := ⟨0, ![]⟩
abbrev S32768x1 : Shape := ⟨2, ![32768, 1]⟩
abbrev S1x2048x16 : Shape := ⟨3, ![1, 2048, 16]⟩
abbrev S2048x16 : Shape := ⟨2, ![2048, 16]⟩
abbrev S32768x16 : Shape := ⟨2, ![32768, 16]⟩
abbrev S1x16x2048 : Shape := ⟨3, ![1, 16, 2048]⟩
abbrev S16x2048 : Shape := ⟨2, ![16, 2048]⟩
abbrev S1 : Shape := ⟨1, ![1]⟩

abbrev nBuf : Space → Nat
  | .hbm => 215
  | .vmem => 0
  | .smem => 0
  | _ => 0

abbrev hbmTy0_0 (i : Nat) : BufTy := match i % 128 with
  | 0 => ⟨S32768x2048, .f32⟩
  | 1 => ⟨S32768, .i32⟩
  | 2 => ⟨S8x2048x16, .f32⟩
  | 3 => ⟨S8x16x2048, .f32⟩
  | 4 => ⟨S8, .f32⟩
  | 5 => ⟨S_, .f32⟩
  | 6 => ⟨S32768x2048, .f32⟩
  | 7 => ⟨S_, .i32⟩
  | 8 => ⟨S32768, .i32⟩
  | 9 => ⟨S32768, .i1⟩
  | 10 => ⟨S32768x1, .i1⟩
  | 11 => ⟨S_, .f32⟩
  | 12 => ⟨S_, .f32⟩
  | 13 => ⟨S32768x2048, .i1⟩
  | 14 => ⟨S32768x2048, .f32⟩
  | 15 => ⟨S32768x2048, .f32⟩
  | 16 => ⟨S1x2048x16, .f32⟩
  | 17 => ⟨S2048x16, .f32⟩
  | 18 => ⟨S32768x16, .f32⟩
  | 19 => ⟨S1x16x2048, .f32⟩
  | 20 => ⟨S16x2048, .f32⟩
  | 21 => ⟨S32768x2048, .f32⟩
  | 22 => ⟨S1, .f32⟩
  | 23 => ⟨S_, .f32⟩
  | 24 => ⟨S32768x2048, .f32⟩
  | 25 => ⟨S32768x2048, .f32⟩
  | 26 => ⟨S32768x1, .i1⟩
  | 27 => ⟨S_, .f32⟩
  | 28 => ⟨S_, .f32⟩
  | 29 => ⟨S32768x2048, .i1⟩
  | 30 => ⟨S32768x2048, .f32⟩
  | 31 => ⟨S32768x2048, .f32⟩
  | 32 => ⟨S32768x2048, .f32⟩
  | 33 => ⟨S_, .i32⟩
  | 34 => ⟨S32768, .i32⟩
  | 35 => ⟨S32768, .i1⟩
  | 36 => ⟨S32768x1, .i1⟩
  | 37 => ⟨S_, .f32⟩
  | 38 => ⟨S_, .f32⟩
  | 39 => ⟨S32768x2048, .i1⟩
  | 40 => ⟨S32768x2048, .f32⟩
  | 41 => ⟨S32768x2048, .f32⟩
  | 42 => ⟨S1x2048x16, .f32⟩
  | 43 => ⟨S2048x16, .f32⟩
  | 44 => ⟨S32768x16, .f32⟩
  | 45 => ⟨S1x16x2048, .f32⟩
  | 46 => ⟨S16x2048, .f32⟩
  | 47 => ⟨S32768x2048, .f32⟩
  | 48 => ⟨S1, .f32⟩
  | 49 => ⟨S_, .f32⟩
  | 50 => ⟨S32768x2048, .f32⟩
  | 51 => ⟨S32768x2048, .f32⟩
  | 52 => ⟨S32768x1, .i1⟩
  | 53 => ⟨S_, .f32⟩
  | 54 => ⟨S_, .f32⟩
  | 55 => ⟨S32768x2048, .i1⟩
  | 56 => ⟨S32768x2048, .f32⟩
  | 57 => ⟨S32768x2048, .f32⟩
  | 58 => ⟨S32768x2048, .f32⟩
  | 59 => ⟨S_, .i32⟩
  | 60 => ⟨S32768, .i32⟩
  | 61 => ⟨S32768, .i1⟩
  | 62 => ⟨S32768x1, .i1⟩
  | 63 => ⟨S_, .f32⟩
  | 64 => ⟨S_, .f32⟩
  | 65 => ⟨S32768x2048, .i1⟩
  | 66 => ⟨S32768x2048, .f32⟩
  | 67 => ⟨S32768x2048, .f32⟩
  | 68 => ⟨S1x2048x16, .f32⟩
  | 69 => ⟨S2048x16, .f32⟩
  | 70 => ⟨S32768x16, .f32⟩
  | 71 => ⟨S1x16x2048, .f32⟩
  | 72 => ⟨S16x2048, .f32⟩
  | 73 => ⟨S32768x2048, .f32⟩
  | 74 => ⟨S1, .f32⟩
  | 75 => ⟨S_, .f32⟩
  | 76 => ⟨S32768x2048, .f32⟩
  | 77 => ⟨S32768x2048, .f32⟩
  | 78 => ⟨S32768x1, .i1⟩
  | 79 => ⟨S_, .f32⟩
  | 80 => ⟨S_, .f32⟩
  | 81 => ⟨S32768x2048, .i1⟩
  | 82 => ⟨S32768x2048, .f32⟩
  | 83 => ⟨S32768x2048, .f32⟩
  | 84 => ⟨S32768x2048, .f32⟩
  | 85 => ⟨S_, .i32⟩
  | 86 => ⟨S32768, .i32⟩
  | 87 => ⟨S32768, .i1⟩
  | 88 => ⟨S32768x1, .i1⟩
  | 89 => ⟨S_, .f32⟩
  | 90 => ⟨S_, .f32⟩
  | 91 => ⟨S32768x2048, .i1⟩
  | 92 => ⟨S32768x2048, .f32⟩
  | 93 => ⟨S32768x2048, .f32⟩
  | 94 => ⟨S1x2048x16, .f32⟩
  | 95 => ⟨S2048x16, .f32⟩
  | 96 => ⟨S32768x16, .f32⟩
  | 97 => ⟨S1x16x2048, .f32⟩
  | 98 => ⟨S16x2048, .f32⟩
  | 99 => ⟨S32768x2048, .f32⟩
  | 100 => ⟨S1, .f32⟩
  | 101 => ⟨S_, .f32⟩
  | 102 => ⟨S32768x2048, .f32⟩
  | 103 => ⟨S32768x2048, .f32⟩
  | 104 => ⟨S32768x1, .i1⟩
  | 105 => ⟨S_, .f32⟩
  | 106 => ⟨S_, .f32⟩
  | 107 => ⟨S32768x2048, .i1⟩
  | 108 => ⟨S32768x2048, .f32⟩
  | 109 => ⟨S32768x2048, .f32⟩
  | 110 => ⟨S32768x2048, .f32⟩
  | 111 => ⟨S_, .i32⟩
  | 112 => ⟨S32768, .i32⟩
  | 113 => ⟨S32768, .i1⟩
  | 114 => ⟨S32768x1, .i1⟩
  | 115 => ⟨S_, .f32⟩
  | 116 => ⟨S_, .f32⟩
  | 117 => ⟨S32768x2048, .i1⟩
  | 118 => ⟨S32768x2048, .f32⟩
  | 119 => ⟨S32768x2048, .f32⟩
  | 120 => ⟨S1x2048x16, .f32⟩
  | 121 => ⟨S2048x16, .f32⟩
  | 122 => ⟨S32768x16, .f32⟩
  | 123 => ⟨S1x16x2048, .f32⟩
  | 124 => ⟨S16x2048, .f32⟩
  | 125 => ⟨S32768x2048, .f32⟩
  | 126 => ⟨S1, .f32⟩
  | 127 => ⟨S_, .f32⟩
  | _ => ⟨S32768x2048, .f32⟩

abbrev hbmTy0_1 (i : Nat) : BufTy := match i % 128 with
  | 0 => ⟨S32768x2048, .f32⟩
  | 1 => ⟨S32768x2048, .f32⟩
  | 2 => ⟨S32768x1, .i1⟩
  | 3 => ⟨S_, .f32⟩
  | 4 => ⟨S_, .f32⟩
  | 5 => ⟨S32768x2048, .i1⟩
  | 6 => ⟨S32768x2048, .f32⟩
  | 7 => ⟨S32768x2048, .f32⟩
  | 8 => ⟨S32768x2048, .f32⟩
  | 9 => ⟨S_, .i32⟩
  | 10 => ⟨S32768, .i32⟩
  | 11 => ⟨S32768, .i1⟩
  | 12 => ⟨S32768x1, .i1⟩
  | 13 => ⟨S_, .f32⟩
  | 14 => ⟨S_, .f32⟩
  | 15 => ⟨S32768x2048, .i1⟩
  | 16 => ⟨S32768x2048, .f32⟩
  | 17 => ⟨S32768x2048, .f32⟩
  | 18 => ⟨S1x2048x16, .f32⟩
  | 19 => ⟨S2048x16, .f32⟩
  | 20 => ⟨S32768x16, .f32⟩
  | 21 => ⟨S1x16x2048, .f32⟩
  | 22 => ⟨S16x2048, .f32⟩
  | 23 => ⟨S32768x2048, .f32⟩
  | 24 => ⟨S1, .f32⟩
  | 25 => ⟨S_, .f32⟩
  | 26 => ⟨S32768x2048, .f32⟩
  | 27 => ⟨S32768x2048, .f32⟩
  | 28 => ⟨S32768x1, .i1⟩
  | 29 => ⟨S_, .f32⟩
  | 30 => ⟨S_, .f32⟩
  | 31 => ⟨S32768x2048, .i1⟩
  | 32 => ⟨S32768x2048, .f32⟩
  | 33 => ⟨S32768x2048, .f32⟩
  | 34 => ⟨S32768x2048, .f32⟩
  | 35 => ⟨S_, .i32⟩
  | 36 => ⟨S32768, .i32⟩
  | 37 => ⟨S32768, .i1⟩
  | 38 => ⟨S32768x1, .i1⟩
  | 39 => ⟨S_, .f32⟩
  | 40 => ⟨S_, .f32⟩
  | 41 => ⟨S32768x2048, .i1⟩
  | 42 => ⟨S32768x2048, .f32⟩
  | 43 => ⟨S32768x2048, .f32⟩
  | 44 => ⟨S1x2048x16, .f32⟩
  | 45 => ⟨S2048x16, .f32⟩
  | 46 => ⟨S32768x16, .f32⟩
  | 47 => ⟨S1x16x2048, .f32⟩
  | 48 => ⟨S16x2048, .f32⟩
  | 49 => ⟨S32768x2048, .f32⟩
  | 50 => ⟨S1, .f32⟩
  | 51 => ⟨S_, .f32⟩
  | 52 => ⟨S32768x2048, .f32⟩
  | 53 => ⟨S32768x2048, .f32⟩
  | 54 => ⟨S32768x1, .i1⟩
  | 55 => ⟨S_, .f32⟩
  | 56 => ⟨S_, .f32⟩
  | 57 => ⟨S32768x2048, .i1⟩
  | 58 => ⟨S32768x2048, .f32⟩
  | 59 => ⟨S32768x2048, .f32⟩
  | 60 => ⟨S32768x2048, .f32⟩
  | 61 => ⟨S_, .i32⟩
  | 62 => ⟨S32768, .i32⟩
  | 63 => ⟨S32768, .i1⟩
  | 64 => ⟨S32768x1, .i1⟩
  | 65 => ⟨S_, .f32⟩
  | 66 => ⟨S_, .f32⟩
  | 67 => ⟨S32768x2048, .i1⟩
  | 68 => ⟨S32768x2048, .f32⟩
  | 69 => ⟨S32768x2048, .f32⟩
  | 70 => ⟨S1x2048x16, .f32⟩
  | 71 => ⟨S2048x16, .f32⟩
  | 72 => ⟨S32768x16, .f32⟩
  | 73 => ⟨S1x16x2048, .f32⟩
  | 74 => ⟨S16x2048, .f32⟩
  | 75 => ⟨S32768x2048, .f32⟩
  | 76 => ⟨S1, .f32⟩
  | 77 => ⟨S_, .f32⟩
  | 78 => ⟨S32768x2048, .f32⟩
  | 79 => ⟨S32768x2048, .f32⟩
  | 80 => ⟨S32768x1, .i1⟩
  | 81 => ⟨S_, .f32⟩
  | 82 => ⟨S_, .f32⟩
  | 83 => ⟨S32768x2048, .i1⟩
  | 84 => ⟨S32768x2048, .f32⟩
  | 85 => ⟨S32768x2048, .f32⟩
  | 86 => ⟨S32768x2048, .f32⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_v50 : Ref sig .tc := ⟨.hbm, 83, rfl⟩
abbrev main_v51 : Ref sig .tc := ⟨.hbm, 84, rfl⟩
abbrev main_c_8 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_9 : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_10 : Ref sig .tc := ⟨.hbm, 105, rfl⟩
abbrev main_call7_v0 : Ref sig .tc := ⟨.hbm, 106, rfl⟩
abbrev main_call7_v1 : Ref sig .tc := ⟨.hbm, 107, rfl⟩
abbrev main_call7_v2 : Ref sig .tc := ⟨.hbm, 108, rfl⟩
abbrev main_v67 : Ref sig .tc := ⟨.hbm, 109, rfl⟩
abbrev main_v68 : Ref sig .tc := ⟨.hbm, 110, rfl⟩
abbrev main_c_11 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_12 : Ref sig .tc := ⟨.hbm, 115, rfl⟩
abbrev main_call8_v0 : Ref sig .tc := ⟨.hbm, 116, rfl⟩
abbrev main_call8_v1 : Ref sig .tc := ⟨.hbm, 117, rfl⟩
abbrev main_call8_v2 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_13 : Ref sig .tc := ⟨.hbm, 131, rfl⟩
abbrev main_call9_v0 : Ref sig .tc := ⟨.hbm, 132, rfl⟩
abbrev main_call9_v1 : Ref sig .tc := ⟨.hbm, 133, rfl⟩
abbrev main_call9_v2 : Ref sig .tc := ⟨.hbm, 134, rfl⟩
abbrev main_v84 : Ref sig .tc := ⟨.hbm, 135, rfl⟩
abbrev main_v85 : Ref sig .tc := ⟨.hbm, 136, rfl⟩
abbrev main_c_14 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_15 : Ref sig .tc := ⟨.hbm, 141, rfl⟩
abbrev main_call10_v0 : Ref sig .tc := ⟨.hbm, 142, rfl⟩
abbrev main_call10_v1 : Ref sig .tc := ⟨.hbm, 143, rfl⟩
abbrev main_call10_v2 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_16 : Ref sig .tc := ⟨.hbm, 157, rfl⟩
abbrev main_call11_v0 : Ref sig .tc := ⟨.hbm, 158, rfl⟩
abbrev main_call11_v1 : Ref sig .tc := ⟨.hbm, 159, rfl⟩
abbrev main_call11_v2 : Ref sig .tc := ⟨.hbm, 160, rfl⟩
abbrev main_v101 : Ref sig .tc := ⟨.hbm, 161, rfl⟩
abbrev main_v102 : Ref sig .tc := ⟨.hbm, 162, rfl⟩
abbrev main_c_17 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_cst_18 : Ref sig .tc := ⟨.hbm, 167, rfl⟩
abbrev main_call12_v0 : Ref sig .tc := ⟨.hbm, 168, rfl⟩
abbrev main_call12_v1 : Ref sig .tc := ⟨.hbm, 169, rfl⟩
abbrev main_call12_v2 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_19 : Ref sig .tc := ⟨.hbm, 183, rfl⟩
abbrev main_call13_v0 : Ref sig .tc := ⟨.hbm, 184, rfl⟩
abbrev main_call13_v1 : Ref sig .tc := ⟨.hbm, 185, rfl⟩
abbrev main_call13_v2 : Ref sig .tc := ⟨.hbm, 186, rfl⟩
abbrev main_v118 : Ref sig .tc := ⟨.hbm, 187, rfl⟩
abbrev main_v119 : Ref sig .tc := ⟨.hbm, 188, rfl⟩
abbrev main_c_20 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_cst_21 : Ref sig .tc := ⟨.hbm, 193, rfl⟩
abbrev main_call14_v0 : Ref sig .tc := ⟨.hbm, 194, rfl⟩
abbrev main_call14_v1 : Ref sig .tc := ⟨.hbm, 195, rfl⟩
abbrev main_call14_v2 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_22 : Ref sig .tc := ⟨.hbm, 209, rfl⟩
abbrev main_call15_v0 : Ref sig .tc := ⟨.hbm, 210, rfl⟩
abbrev main_call15_v1 : Ref sig .tc := ⟨.hbm, 211, rfl⟩
abbrev main_call15_v2 : Ref sig .tc := ⟨.hbm, 212, rfl⟩
abbrev main_v135 : Ref sig .tc := ⟨.hbm, 213, rfl⟩
abbrev main_v136 : Ref sig .tc := ⟨.hbm, 214, rfl⟩

abbrev nD : Nat := 1
abbrev τ : Topo := Topo.v7x

variable {F : FTy → Type} [FloatOps F]
-- ==== Proof.Algebra.lean ====
/- The arithmetic of the layer in the extended reals: what one element of the result is, when a multiplication
   distributes over a sum of products, and that the adapters laid side by side give the same element as the adapters
   taken one after another. No array and no program occurs here. -/
module

public import Mathlib.Data.EReal.Inv
public import Mathlib.Algebra.BigOperators.Fin
public import Mathlib.Logic.Equiv.Fin.Basic

@[expose] public section

noncomputable section

namespace Cert.Lora

open scoped BigOperators

/-- An extended real that is a real number. -/
def IsReal (x : EReal) : Prop := ∃ r : ℝ, x = (r : EReal)

/-- A product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) {f : ι → EReal} (hf : ∀ i, IsReal (f i)) : IsReal (∑ i ∈ s, f i) := by
  classical
  induction s using Finset.induction_on with
  | empty => exact ⟨0, by simp⟩
  | insert a s ha ih =>
    obtain ⟨p, hp⟩ := hf a
    obtain ⟨q, hq⟩ := ih
    exact ⟨p + q, by rw [Finset.sum_insert ha, hp, hq, EReal.coe_add]⟩

/-- Multiplication by a real number distributes over the sum of two real numbers. -/
theorem add_mul_real {x y s : EReal} (hx : IsReal x) (hy : IsReal y) (hs : IsReal s) : (x + y) * s = x * s + y * s := by
  obtain ⟨a, rfl⟩ := hx
  obtain ⟨b, rfl⟩ := hy
  obtain ⟨c, rfl⟩ := hs
  rw [← EReal.coe_add, ← EReal.coe_mul, ← EReal.coe_mul, ← EReal.coe_mul, ← EReal.coe_add, add_mul]

/-- Multiplication by a real number `s` distributes over a finite sum when `s` is not negative or every term is real. -/
theorem sum_mul_distrib {ι : Type} (t : Finset ι) (f : ι → EReal) {s : EReal} (hs : IsReal s)
    (h : 0 ≤ s ∨ ∀ i, IsReal (f i)) : (∑ i ∈ t, f i) * s = ∑ i ∈ t, f i * s := by
  classical
  have two : ∀ (a : ι) (u : Finset ι), (f a + ∑ i ∈ u, f i) * s = f a * s + (∑ i ∈ u, f i) * s := fun a u => by
    rcases h with h | h
    · obtain ⟨r, rfl⟩ := hs
      exact EReal.right_distrib_of_nonneg_of_ne_top h (EReal.coe_ne_top r) _ _
    · exact add_mul_real (h a) (IsReal.sum u h) hs
  induction t using Finset.induction_on with
  | empty => simp
  | insert a u ha ih => rw [Finset.sum_insert ha, Finset.sum_insert ha, two, ih]

/-- The inputs that one element of the result depends on: the token's row `x`, its slot word `w`, the adapters' down
    projections `A`, the column `B` of their up projections, and their scalings `s`. -/
structure Inputs where
  x : Fin 2048 → EReal
  w : BitVec 32
  A : Fin 8 → Fin 2048 → Fin 16 → EReal
  B : Fin 8 → Fin 16 → EReal
  s : Fin 8 → EReal

/-- The token's row projected to rank component `r` of adapter `e`. -/
def Inputs.down (I : Inputs) (e : Fin 8) (r : Fin 16) : EReal := ∑ k, I.x k * I.A e k r

/-- What adapter `e` adds to the element: its low-rank product times its scaling when the slot word is `e`, else zero. -/
def Inputs.term (I : Inputs) (e : Fin 8) : EReal :=
  if I.w = BitVec.ofNat 32 e then (∑ r, I.down e r * I.B e r) * I.s e else 0

/-- The element as the adapters taken one after another give it. -/
def Inputs.perSlot (I : Inputs) : EReal := ∑ e, I.term e

/-- The adapter that column `c` of the 128 concatenated columns belongs to. -/
abbrev adapter (c : Fin 128) : Fin 8 := ⟨c / 16, by omega⟩
/-- The rank component that column `c` of the 128 concatenated columns holds. -/
abbrev component (c : Fin 128) : Fin 16 := ⟨c % 16, by omega⟩

/-- The element as the concatenated adapters give it: one contraction over all 128 columns, a column's projection kept
    only where its adapter is the slot word, the scaling folded into the up projection. -/
def Inputs.concatenated (I : Inputs) : EReal :=
  ∑ c : Fin 128, (if I.w = BitVec.ofNat 32 (c / 16) then I.down (adapter c) (component c) else 0)
    * (I.B (adapter c) (component c) * I.s (adapter c))

/-- The inputs meet the precondition: every scaling is real, and is not negative or everything else is real. -/
structure Inputs.Distributes (I : Inputs) : Prop where
  real : ∀ e, IsReal (I.s e)
  side : ∀ e, 0 ≤ I.s e ∨ ((∀ k, IsReal (I.x k)) ∧ (∀ e k r, IsReal (I.A e k r)) ∧ ∀ e r, IsReal (I.B e r))

/-- A sum over the 128 concatenated columns is the sum over adapters of the sum over rank components. -/
theorem sum_columns (f : Fin 8 → Fin 16 → EReal) :
    ∑ c : Fin 128, f (adapter c) (component c) = ∑ e, ∑ r, f e r := by
  rw [← Fintype.sum_prod_type', ← Equiv.sum_comp (finProdFinEquiv (m := 8) (n := 16))]
  refine Fintype.sum_congr _ _ fun p => ?_
  obtain ⟨e, r⟩ := p
  have he : adapter (finProdFinEquiv (e, r)) = e := Fin.ext (by simp [finProdFinEquiv]; omega)
  have hr : component (finProdFinEquiv (e, r)) = r := Fin.ext (by simp [finProdFinEquiv])
  rw [he, hr]

/-- Under the precondition the concatenated adapters and the adapters one after another give the same element. -/
theorem Inputs.concatenated_eq_perSlot (I : Inputs) (h : I.Distributes) : I.concatenated = I.perSlot := by
  rw [Inputs.concatenated, sum_columns fun e r =>
    (if I.w = BitVec.ofNat 32 e then I.down e r else 0) * (I.B e r * I.s e), Inputs.perSlot]
  refine Fintype.sum_congr _ _ fun e => ?_
  rw [Inputs.term]
  split
  · have terms : 0 ≤ I.s e ∨ ∀ r, IsReal (I.down e r * I.B e r) := (h.side e).imp_right fun g r =>
      (IsReal.sum _ fun k => (g.1 k).mul (g.2.1 e k r)).mul (g.2.2 e r)
    rw [sum_mul_distrib _ _ (h.real e) terms]
    exact Fintype.sum_congr _ _ fun r => (mul_assoc (I.down e r) (I.B e r) (I.s e)).symm
  · exact Fintype.sum_eq_zero _ fun r => zero_mul _

end Cert.Lora

end
-- ==== Proof.Arrays.lean ====
/- The layer's arrays, element by element: which inputs element `(t, o)` of the result depends on, and the two arrays of
   results, one per way of computing an element. -/
module

public import proofs.«01_k».proof.Proof.Algebra
public import Idealize.ShloMosaic.Lib.ValueIdx

@[expose] public section

noncomputable section

namespace Cert.Lora

open Idealize.ShloMosaic Idealize.ShloMosaic.ValueIdx

/-- The five argument arrays: the tokens, their slot words, the down projections, the up projections, the scalings. -/
structure Args where
  x : FVec Ideal ⟨2, ![32768, 2048]⟩ .f32
  slot : IVec ⟨1, ![32768]⟩ 32
  A : FVec Ideal ⟨3, ![8, 2048, 16]⟩ .f32
  B : FVec Ideal ⟨3, ![8, 16, 2048]⟩ .f32
  s : FVec Ideal ⟨1, ![8]⟩ .f32

/-- What element `(t, o)` of the result depends on. -/
def Args.at (a : Args) (t : Fin 32768) (o : Fin 2048) : Inputs where
  x := fun k => a.x (ix2 t k)
  w := a.slot (ix1 t)
  A := fun e k r => a.A (ix3 e k r)
  B := fun e r => a.B (ix3 e r o)
  s := fun e => a.s (ix1 e)

/-- The result array as the concatenated adapters give it. -/
def Args.concatenated (a : Args) : FVec Ideal ⟨2, ![32768, 2048]⟩ .f32 := fun j => (a.at (j 0) (j 1)).concatenated

/-- The result array as the adapters taken one after another give it. -/
def Args.perSlot (a : Args) : FVec Ideal ⟨2, ![32768, 2048]⟩ .f32 := fun j => (a.at (j 0) (j 1)).perSlot

/-- When every element's inputs meet the precondition the two result arrays are the same. -/
theorem Args.concatenated_eq_perSlot (a : Args) (h : ∀ t o, (a.at t o).Distributes) : a.concatenated = a.perSlot :=
  funext fun j => (a.at (j 0) (j 1)).concatenated_eq_perSlot (h (j 0) (j 1))

end Cert.Lora

end
-- ==== Proof.Block.lean ====
/- What one block of the kernel computes: element `(t, o)` of the block that the body stores, from the four input blocks. -/
module

public import proofs.«01_k».proof.Proof.Algebra
public import proofs.«01_k».proof.Proof.Gen.KernelIdeal.Frame
public import Idealize.ShloMosaic.Lib.Pipeline.Value
public import Idealize.ShloMosaic.Lib.MatmulPlain
public import Idealize.ShloMosaic.Lib.ValueIdx
public import Idealize.ShloMosaic.Lib.StableHlo.Predicate

@[expose] public section

noncomputable section

namespace Cert.Lora.Block

open Cert.KernelIdeal Cert.KernelIdeal.Gen Idealize.ShloMosaic Idealize.ShloMosaic.ValueIdx
open scoped BigOperators

/-- The adapter word that the kernel computes for column word `n`: the quotient by 16 rounded down, as the truncated
    quotient corrected by one where the signs differ and the remainder is not zero. -/
def label (n : BitVec 32) : BitVec 32 :=
  let signN := IntOp.subi ((IntOp.cmpi .sgt n 0#32).setWidth 32) ((IntOp.cmpi .slt n 0#32).setWidth 32)
  let sign16 := IntOp.subi ((IntOp.cmpi .sgt 16#32 0#32).setWidth 32) ((IntOp.cmpi .slt 16#32 0#32).setWidth 32)
  Scalar.select
    (IntOp.andi (IntOp.cmpi .ne signN sign16) (IntOp.cmpi .ne (IntOp.remsi .vector n 16#32) 0#32))
    (IntOp.subi (IntOp.divsi .vector n 16#32) 1#32)
    (IntOp.divsi .vector n 16#32)

/-- On each of the 128 columns the adapter word is the column divided by 16. -/
theorem label_column : ∀ c : Fin 128, label (BitVec.ofNat 32 c) = BitVec.ofNat 32 (c / 16) := by
  decide +kernel

/-- A select on the equality of two words is the `if` on that equality. -/
theorem select_eq {α : Type} (a b : BitVec 32) (p q : α) :
    Scalar.select (IntOp.cmpi .eq a b) p q = if a = b then p else q := by
  by_cases h : a = b
  · rw [if_pos h, StableHlo.Predicate.cmpi_eq_iff.2 h, select_one]
  · rw [if_neg h, eq_zero_of_ne_one (mt StableHlo.Predicate.cmpi_eq_iff.1 h), select_zero]

/-- One block, element `(t, o)`: the 128 projections of token `t` by the concatenated down projections `a`, those kept
    whose column belongs to the token's slot word, contracted with column `o` of the concatenated up projections `b`. -/
theorem pay_at (x : Vec Ideal S1024x2048 .f32) (a : Vec Ideal S2048x128 .bf16) (w : Vec Ideal S1024x1 .i32)
    (b : Vec Ideal S128x2048 .bf16) (t : Fin 1024) (o : Fin 2048) :
    k0_pay1 (F := Ideal) x a w b (ix2 t o)
      = ∑ c : Fin 128, (if w (ix2 t 0) = BitVec.ofNat 32 (c / 16) then ∑ k : Fin 2048, x (ix2 t k) * a (ix2 k c) else 0)
          * b (ix2 c o) := by
  unfold k0_pay1
  simp only [shapeCast_self]
  refine (Ideal.matmul_plain_apply (M := 1024) (K := 128) (N := 2048) none _ _ _ t o).trans ?_
  rw [constant_apply, Ideal.ofBits_zero_f32, zero_add]
  refine Fintype.sum_congr _ _ fun c => congrArg (· * b (ix2 c o)) ?_
  have hw : broadcastTo S1024x128 w broadcasts_S1024x1_S1024x128 (ix2 t c) = w (ix2 t 0) :=
    broadcastTo_apply w _ _ _ fun d => by match d with | ⟨0, _⟩ => rfl | ⟨1, _⟩ => rfl
  have hl : label (iota .tc S1024x128 32 [1] iota_S1024x128_d1_w32 (ix2 t c)) = BitVec.ofNat 32 (c / 16) := by
    rw [iota_single_apply]; exact label_column c
  have hm := Ideal.matmul_plain_apply (M := 1024) (K := 2048) (N := 128) (φ₂ := .bf16) none (truncf .bf16 x bitsLt_bf16_f32) a
    (constant S1024x128 .f32 0x00000000#32) t c
  rw [constant_apply, Ideal.ofBits_zero_f32, zero_add] at hm
  show Scalar.select (IntOp.cmpi .eq (broadcastTo S1024x128 w broadcasts_S1024x1_S1024x128 (ix2 t c))
    (label (iota .tc S1024x128 32 [1] iota_S1024x128_d1_w32 (ix2 t c))))
    (FloatOps.matmul (DotDims.plain 1024 2048 128) none (truncf .bf16 x bitsLt_bf16_f32) a
      (constant S1024x128 .f32 0x00000000#32) (ix2 t c)) (Ideal.ofBits .f32 0x00000000#32) = _
  rw [hw, hl, select_eq, hm, Ideal.ofBits_zero_f32]
  rfl

end Cert.Lora.Block

end
-- ==== Proof.KernelValue.lean ====
/- What the kernel's result array holds after the run: the concatenated operands that its host prefix builds, read element by
   element, and the array from its 32 blocks of 1024 tokens. -/
module

public import proofs.«01_k».proof.Proof.Arrays
public import proofs.«01_k».proof.Proof.Block
public import proofs.«01_k».proof.Proof.Gen.KernelIdeal.Value
public import Idealize.ShloMosaic.Lib.Pipeline.ValueKit
public import Idealize.ShloMosaic.Lib.Claim

@[expose] public section

noncomputable section

namespace Cert.Lora.KernelValue

open Cert.KernelIdeal Cert.KernelIdeal.Gen Idealize.ShloMosaic.TcCoe Idealize.SL.Sem
open Idealize.ShloMosaic hiding ix1 ix2 ix3 eq_ix2
open Idealize.ShloMosaic.ValueIdx
open scoped BigOperators

variable (m : (ℓ : Loc nD τ sig) → Buf (Elt Ideal) ℓ)

/-- The kernel's argument arrays on device `c`, as launched. -/
def args (c : Dev nD) : Args where
  x := m ((c : Thread nD τ).loc main_arg0)
  slot := m ((c : Thread nD τ).loc main_arg1)
  A := m ((c : Thread nD τ).loc main_arg2)
  B := m ((c : Thread nD τ).loc main_arg3)
  s := m ((c : Thread nD τ).loc main_arg4)

/-- The slot words as a column: row `t` holds token `t`'s slot word. -/
theorem slot_at (c : Dev nD) (t : Fin 32768) (z : Fin 1) : V m c main_v8 (ix2 t z) = (args m c).slot (ix1 t) := by
  entry_read
  exact shapeCast_apply (t := S32768x1) _ _ _ (ix1 t) (by rw [Shape.rowMajor_val_one, Shape.rowMajor_val_two]; simp)

/-- The concatenated down projections: column `q` is rank component `q % 16` of adapter `q / 16`. -/
theorem down_at (c : Dev nD) (k : Fin 2048) (q : Fin 128) :
    V m c main_v6 (ix2 k q) = (args m c).A (ix3 (adapter q) k (component q)) := by
  entry_read
  refine (shapeCast_apply (t := S2048x128) _ _ _ (ix3 k (adapter q) (component q)) ?_).trans (transpose_apply _ _ _ _ _ fun b => ?_)
  · rw [Shape.rowMajor_val_three, Shape.rowMajor_val_two]
    show ((k : ℕ) * 8 + q / 16) * 16 + q % 16 = k * 128 + q
    omega
  · match b with | ⟨0, _⟩ => rfl | ⟨1, _⟩ => rfl | ⟨2, _⟩ => rfl

/-- The concatenated up projections: row `q` is row `q % 16` of adapter `q / 16`, times that adapter's scaling. -/
theorem up_at (c : Dev nD) (q : Fin 128) (o : Fin 2048) :
    V m c main_v7 (ix2 q o)
      = (args m c).B (ix3 (adapter q) (component q) o) * (args m c).s (ix1 (adapter q)) := by
  entry_read
  rw [truncf_apply]
  refine (shapeCast_apply (t := S128x2048) _ _ _ (ix3 (adapter q) (component q) o) ?_).trans ?_
  · rw [Shape.rowMajor_val_three, Shape.rowMajor_val_two]
    show ((q / 16 : ℕ) * 16 + q % 16) * 2048 + o = q * 2048 + o
    omega
  · rw [mulf_apply]
    refine congrArg ((args m c).B (ix3 (adapter q) (component q) o) * ·) ?_
    refine (broadcastInDim_apply _ _ _ _ (ix3 (adapter q) 0 0) fun a => ?_).trans
      (broadcastInDim_apply _ _ _ _ (ix1 (adapter q)) fun a => ?_)
    · match a with | ⟨0, _⟩ => rfl | ⟨1, _⟩ => rfl | ⟨2, _⟩ => rfl
    · match a with | ⟨0, _⟩ => rfl

/-- Block `t` of each window that moves starts at row `1024 · t`; the concatenated operands are one block. -/
theorem block_index : ∀ t : Fin cfg0.N,
    win0_0.index t = ![t.val, 0] ∧ win0_1.index t = ![t.val, 0] ∧ win0_2.index t = ![0, 0] ∧ win0_3.index t = ![0, 0]
      ∧ win0_4.index t = ![t.val, 0] :=
  (by decide +kernel : ∀ t : Fin grid0.N,
    win0_0.index t = ![t.val, 0] ∧ win0_1.index t = ![t.val, 0] ∧ win0_2.index t = ![0, 0] ∧ win0_3.index t = ![0, 0]
      ∧ win0_4.index t = ![t.val, 0])

/-- The block that the body stores is its payload of the four input blocks. -/
theorem out_at (x0 : Vec Ideal S1024x1 .i32) (x1 : Vec Ideal S1024x2048 .f32) (x2 : Vec Ideal S2048x128 .bf16)
    (x3 : Vec Ideal S128x2048 .bf16) : out0_4 x0 x1 x2 x3 = k0_pay1 x1 x2 x0 x3 := by
  have hz : (![0, 0] : Fin 2 → ℕ) = fun _ => 0 := funext fun a => by fin_cases a <;> rfl
  unfold out0_4
  rw [View.canon_unit_zero hz, View.ld_unit_zero hz, View.ld_unit_zero hz, View.ld_unit_zero hz, View.ld_unit_zero hz]

/-- Token `p` of block `t` is token `1024 · t + p` of the array. -/
abbrev token (t : Fin cfg0.N) (p : Fin 1024) : Fin 32768 :=
  ⟨t.val * 1024 + p.val, by have h : t.val < 32 := t.isLt; omega⟩

/-- The first input block of point `t` holds its tokens' slot words. -/
theorem iblk_slot (c : Dev nD) (t : Fin cfg0.N) (p : Fin 1024) :
    iblk m c 0 t (ix2 p 0) = (args m c).slot (ix1 (token t p)) := by
  refine Eq.trans ?_ (slot_at m c (token t p) 0)
  blk_simp [iblk]
  refine congrArg (V m c main_v8) ?_
  blk_ext [(block_index t).1]

/-- The second input block of point `t` holds its tokens' rows. -/
theorem iblk_x (c : Dev nD) (t : Fin cfg0.N) (p : Fin 1024) (k : Fin 2048) :
    iblk m c 1 t (ix2 p k) = (args m c).x (ix2 (token t p) k) := by
  blk_simp [iblk]
  refine (congrFun (V_main_arg0 m c) _).trans (congrArg (m ((c : Thread nD τ).loc main_arg0)) ?_)
  blk_ext [(block_index t).2.1]

/-- The third input block of every point is the concatenated down projections. -/
theorem iblk_down (c : Dev nD) (t : Fin cfg0.N) (k : Fin 2048) (q : Fin 128) :
    iblk m c 2 t (ix2 k q) = (args m c).A (ix3 (adapter q) k (component q)) := by
  refine Eq.trans ?_ (down_at m c k q)
  blk_simp [iblk]
  refine congrArg (V m c main_v6) ?_
  blk_ext [(block_index t).2.2.1]

/-- The fourth input block of every point is the concatenated up projections, scaled. -/
theorem iblk_up (c : Dev nD) (t : Fin cfg0.N) (q : Fin 128) (o : Fin 2048) :
    iblk m c 3 t (ix2 q o)
      = (args m c).B (ix3 (adapter q) (component q) o) * (args m c).s (ix1 (adapter q)) := by
  refine Eq.trans ?_ (up_at m c q o)
  blk_simp [iblk]
  refine congrArg (V m c main_v7) ?_
  blk_ext [(block_index t).2.2.2.1]

/-- The result array after the run is the concatenated adapters' result of the arguments as launched. -/
theorem final (c : Dev nD) : (dats m 0 c).arrAt 4 cfg0.N = (args m c).concatenated := by
  refine (dats m 0 c).arrAt_eq_of_covers 4 _ (by decide +kernel) fun t hf y => ?_
  blk_simp
  rw [after0_4, out_at]
  obtain ⟨p, o, rfl⟩ : ∃ (p : Fin 1024) (o : Fin 2048), y = ix2 p o := ⟨y 0, y 1, eq_ix2 y⟩
  have he : ((cfg0.win 4).blk t).view.emb (ix2 p o) = ix2 (token t p) o := by
    blk_ext [(block_index t).2.2.2.2]
  rw [he]
  refine (Block.pay_at _ _ _ _ p o).trans ?_
  show _ = ((args m c).at (token t p) o).concatenated
  unfold Inputs.concatenated
  refine Fintype.sum_congr _ _ fun q => ?_
  rw [iblk_slot, iblk_up]
  simp only [iblk_x, iblk_down]
  rfl

end Cert.Lora.KernelValue

end
-- ==== Proof.ReferenceValue.lean ====
/- What the reference's result array holds: the array that one adapter adds, read element by element, and the result as
   the sum of the eight arrays. -/
module

public import proofs.«01_k».proof.Proof.Arrays
public import proofs.«01_k».proof.Proof.Block
public import proofs.«01_k».proof.Proof.Gen.ReferenceIdeal.Run
public import Idealize.ShloMosaic.Lib.StackMember

@[expose] public section

noncomputable section

namespace Cert.Lora.ReferenceValue

open Cert.ReferenceIdeal Cert.ReferenceIdeal.Gen Idealize.ShloMosaic Idealize.ShloMosaic.StableHlo Idealize.ShloMosaic.ValueIdx
open scoped BigOperators

/-- The reference's zero, as an array of the result's shape. -/
def zeros : FVec Ideal S32768x2048 .f32 :=
  broadcastInDim S32768x2048 ![] bcast_S_S32768x2048 (constant S_ .f32 0x00000000#32)

/-- Every element of the zero array is zero. -/
theorem zeros_at (j : S32768x2048.Idx) : zeros j = 0 :=
  (broadcastInDim_apply _ _ _ _ (fun a => a.elim0) fun a => a.elim0).trans Ideal.ofBits_zero_f32

/-- The tokens whose slot word is `e`, as a mask of the result's shape. -/
def mask (slot : IVec S32768 32) (e : BitVec 32) : IVec S32768x2048 1 :=
  broadcastInDim S32768x2048 ![0, 1] bcast_S32768x1_S32768x2048_0_1 (broadcastInDim S32768x1 ![0] bcast_S32768_S32768x1_0
    (cmpi .eq slot (broadcastInDim S32768 ![] bcast_S_S32768 (constantI S_ 32 e))))

/-- The mask at an element compares the token's slot word with `e`. -/
theorem mask_at (slot : IVec S32768 32) (e : BitVec 32) (t : Fin 32768) (o : Fin 2048) :
    mask slot e (ix2 t o) = IntOp.cmpi .eq (slot (ix1 t)) e := by
  refine (broadcastInDim_apply _ _ _ _ (ix2 t 0) fun a => ?_).trans
    ((broadcastInDim_apply _ _ _ _ (ix1 t) fun a => ?_).trans ?_)
  · match a with | ⟨0, _⟩ => rfl | ⟨1, _⟩ => rfl
  · match a with | ⟨0, _⟩ => rfl
  · exact congrArg (IntOp.cmpi .eq (slot (ix1 t)))
      (broadcastInDim_apply _ _ _ (ix1 t) (fun a => a.elim0) fun a => a.elim0)

/-- The array that the adapter at position `n` adds: its own tokens projected down and up and scaled, the other tokens zero. -/
def added (a : Args) (n : ℕ) (hA : S8x2048x16.Slices ![n, 0, 0] S1x2048x16) (hB : S8x16x2048.Slices ![n, 0, 0] S1x16x2048)
    (hs : S8.Slices ![n] S1) : FVec Ideal S32768x2048 .f32 :=
  select (mask a.slot (BitVec.ofNat 32 n))
    (mulf
      (Host.dotGeneral dot_S32768x16_S16x2048_S32768x2048_1_0_0_1_n_n none
        (Host.dotGeneral dot_S32768x2048_S2048x16_S32768x16_1_0_0_1_n_n none (select (mask a.slot (BitVec.ofNat 32 n)) a.x zeros)
          (shapeCast S2048x16 (extractStridedSlice S1x2048x16 ![n, 0, 0] a.A hA) shapeCasts_S1x2048x16_S2048x16))
        (shapeCast S16x2048 (extractStridedSlice S1x16x2048 ![n, 0, 0] a.B hB) shapeCasts_S1x16x2048_S16x2048))
      (broadcastInDim S32768x2048 ![] bcast_S_S32768x2048
        (shapeCast S_ (extractStridedSlice S1 ![n] a.s hs) shapeCasts_S1_S_)))
    zeros

/-- What adapter `e` adds at an element is its low-rank product times its scaling when the slot word is `e`, else zero. -/
theorem added_at (a : Args) (e : Fin 8) (hA : S8x2048x16.Slices ![(e : ℕ), 0, 0] S1x2048x16)
    (hB : S8x16x2048.Slices ![(e : ℕ), 0, 0] S1x16x2048) (hs : S8.Slices ![(e : ℕ)] S1) (t : Fin 32768) (o : Fin 2048) :
    added a e hA hB hs (ix2 t o) = (a.at t o).term e := by
  have hx : ∀ k, select (mask a.slot (BitVec.ofNat 32 e)) a.x zeros (ix2 t k)
      = if a.slot (ix1 t) = BitVec.ofNat 32 e then a.x (ix2 t k) else 0 := fun k => by
    rw [select_apply, mask_at, Block.select_eq, zeros_at]
  have hdown : ∀ k r, shapeCast S2048x16 (extractStridedSlice S1x2048x16 ![(e : ℕ), 0, 0] a.A hA)
      shapeCasts_S1x2048x16_S2048x16 (ix2 k r) = a.A (ix3 e k r) := fun k r =>
    (shapeCast_apply _ _ _ (ix3 0 k r) (by rw [Shape.rowMajor_val_three, Shape.rowMajor_val_two]; simp)).trans
      (extractStridedSlice_apply _ _ _ _ _ fun b => by
        match b with | ⟨0, _⟩ => rfl | ⟨1, _⟩ => exact (Nat.zero_add _).symm | ⟨2, _⟩ => exact (Nat.zero_add _).symm)
  have hup : ∀ r, shapeCast S16x2048 (extractStridedSlice S1x16x2048 ![(e : ℕ), 0, 0] a.B hB)
      shapeCasts_S1x16x2048_S16x2048 (ix2 r o) = a.B (ix3 e r o) := fun r =>
    (shapeCast_apply _ _ _ (ix3 0 r o) (by rw [Shape.rowMajor_val_three, Shape.rowMajor_val_two]; simp)).trans
      (extractStridedSlice_apply _ _ _ _ _ fun b => by
        match b with | ⟨0, _⟩ => rfl | ⟨1, _⟩ => exact (Nat.zero_add _).symm | ⟨2, _⟩ => exact (Nat.zero_add _).symm)
  have hscale : broadcastInDim S32768x2048 ![] bcast_S_S32768x2048
      (shapeCast S_ (extractStridedSlice S1 ![(e : ℕ)] a.s hs) shapeCasts_S1_S_) (ix2 t o) = a.s (ix1 e) :=
    (broadcastInDim_apply _ _ _ _ (fun b => b.elim0) fun b => b.elim0).trans
      ((shapeCast_apply _ _ _ (ix1 0) (by rw [Shape.rowMajor_val_one]; exact (Nat.lt_one_iff.1 (Fin.isLt _)).symm)).trans
        (extractStridedSlice_apply _ _ _ _ _ fun b => by match b with | ⟨0, _⟩ => rfl))
  unfold added Inputs.term
  rw [select_apply, mask_at, Block.select_eq, zeros_at]
  show (if a.slot (ix1 t) = BitVec.ofNat 32 e then _ else _) = if a.slot (ix1 t) = BitVec.ofNat 32 e then _ else _
  split
  next hw =>
    rw [mulf_apply, hscale]
    refine congrArg (· * a.s (ix1 e)) ((StackMember.dotGeneral_plain_apply none _ _ t o).trans
      (Fintype.sum_congr _ _ fun r => ?_))
    rw [hup]
    refine congrArg (· * a.B (ix3 e r o)) ((StackMember.dotGeneral_plain_apply none _ _ t r).trans
      (Fintype.sum_congr _ _ fun k => ?_))
    rw [hx, hdown, if_pos hw]
    rfl
  next => rfl

variable (m : (ℓ : Loc nD τ sig) → Buf (Elt Ideal) ℓ)

/-- The reference's argument arrays on device `c`, as launched. -/
def args (c : Dev nD) : Args where
  x := m ((c.tc : Thread nD τ).loc main_arg0)
  slot := m ((c.tc : Thread nD τ).loc main_arg1)
  A := m ((c.tc : Thread nD τ).loc main_arg2)
  B := m ((c.tc : Thread nD τ).loc main_arg3)
  s := m ((c.tc : Thread nD τ).loc main_arg4)

/-- The result term is zero and the eight adapters' arrays, added one after another. -/
theorem result_eq (c : Dev nD) :
    Value.res_out0 (launchContents m c)
      = addf (addf (addf (addf (addf (addf (addf (addf zeros
          (added (args m c) 0 slices_S8x2048x16_S1x2048x16_0_0_0 slices_S8x16x2048_S1x16x2048_0_0_0 slices_S8_S1_0))
          (added (args m c) 1 slices_S8x2048x16_S1x2048x16_1_0_0 slices_S8x16x2048_S1x16x2048_1_0_0 slices_S8_S1_1))
          (added (args m c) 2 slices_S8x2048x16_S1x2048x16_2_0_0 slices_S8x16x2048_S1x16x2048_2_0_0 slices_S8_S1_2))
          (added (args m c) 3 slices_S8x2048x16_S1x2048x16_3_0_0 slices_S8x16x2048_S1x16x2048_3_0_0 slices_S8_S1_3))
          (added (args m c) 4 slices_S8x2048x16_S1x2048x16_4_0_0 slices_S8x16x2048_S1x16x2048_4_0_0 slices_S8_S1_4))
          (added (args m c) 5 slices_S8x2048x16_S1x2048x16_5_0_0 slices_S8x16x2048_S1x16x2048_5_0_0 slices_S8_S1_5))
          (added (args m c) 6 slices_S8x2048x16_S1x2048x16_6_0_0 slices_S8x16x2048_S1x16x2048_6_0_0 slices_S8_S1_6))
          (added (args m c) 7 slices_S8x2048x16_S1x2048x16_7_0_0 slices_S8x16x2048_S1x16x2048_7_0_0 slices_S8_S1_7) :=
  rfl

/-- The reference's result array is the result of the adapters taken one after another, of the arguments as launched. -/
theorem final (c : Dev nD) : Value.res_out0 (launchContents m c) = (args m c).perSlot := by
  rw [result_eq]
  funext j
  obtain ⟨t, o, rfl⟩ : ∃ (t : Fin 32768) (o : Fin 2048), j = ix2 t o := ⟨j 0, j 1, eq_ix2 j⟩
  show _ = ∑ e, ((args m c).at t o).term e
  have h := fun (e : Fin 8) hA hB hs => added_at (args m c) e hA hB hs t o
  simp only [addf_apply]
  rw [Fin.sum_univ_eight, zeros_at]
  erw [h 0, h 1, h 2, h 3, h 4, h 5, h 6, h 7]
  rw [zero_add]

end Cert.Lora.ReferenceValue

end
-- ==== Proof.Precondition.lean ====
/- What the precondition says of the arguments: its printed form, read back as the condition under which multiplication
   by a scaling distributes, at every element of the result. -/
module

public import proofs.«01_k».proof.Pre_scaling_distributes
public import proofs.«01_k».proof.Proof.Arrays
public import Idealize.ShloMosaic.Lib.Pipeline.Value
public import Idealize.ShloMosaic.Lib.ReduceAll
public import Idealize.ShloMosaic.PureOps.Ideal.Laws

@[expose] public section

noncomputable section

namespace Cert.Lora.Precondition

open Cert.Pre_scaling_distributes Idealize.ShloMosaic Idealize.ShloMosaic.ValueIdx

/-- The shape relations that the precondition's operations take. -/
instance facts : Cert.Pre_scaling_distributes.Facts where
  bcast_S_S32768x2048 := by decide
  reducesTo_S32768x2048_S_d0_1 := by decide
  h_S_ := by decide
  bcast_S_S8x2048x16 := by decide
  reducesTo_S8x2048x16_S_d0_1_2 := by decide
  bcast_S_S8x16x2048 := by decide
  reducesTo_S8x16x2048_S_d0_1_2 := by decide
  bcast_S_S8 := by decide

/-- The shape of rank zero has one index. -/
instance : Subsingleton S_.Idx := ⟨fun _ _ => funext fun a => a.elim0⟩

/-- An extended real whose absolute value is below infinity is a real number. -/
theorem isReal_of_abs_lt {x : EReal} (h : max x (-x) < ⊤) : IsReal x := by
  obtain ⟨hx, hn⟩ := max_lt_iff.1 h
  exact ⟨x.toReal, (EReal.coe_toReal hx.ne fun hb => by rw [hb, EReal.neg_bot] at hn; exact lt_irrefl _ hn).symm⟩

/-- Where the comparison of an array's absolute value with infinity holds, the array is real. -/
theorem isReal_of_mask {t : Shape} (hb : S_.BroadcastsInDim t (![] : Fin 0 → Fin t.rank)) (x : FVec Ideal t .f32) (i : t.Idx)
    (h : cmpf .olt (Host.absf x) (broadcastInDim t ![] hb (constant S_ .f32 0x7F800000#32)) i = 1#1) : IsReal (x i) := by
  have e : broadcastInDim t ![] hb (constant (F := Ideal) S_ .f32 0x7F800000#32) i = (⊤ : EReal) :=
    (broadcastInDim_apply _ _ _ _ (fun a => a.elim0) fun a => a.elim0).trans
      ((constant_apply _ _).trans (by simp [Ideal.ofBits, Ideal.ieee]))
  rw [cmpf_apply, e] at h
  have h' : BitVec.ofBool (decide (max (x i : EReal) (-(x i : EReal)) < ⊤)) = 1#1 := h
  by_cases hl : max (x i : EReal) (-(x i : EReal)) < ⊤
  · exact isReal_of_abs_lt hl
  · rw [decide_eq_false hl] at h'
    exact absurd h' (by decide)

/-- Where the comparison of an array with zero holds, the array is not negative. -/
theorem nonneg_of_mask {t : Shape} (hb : S_.BroadcastsInDim t (![] : Fin 0 → Fin t.rank)) (x : FVec Ideal t .f32) (i : t.Idx)
    (h : cmpf .oge x (broadcastInDim t ![] hb (constant S_ .f32 0x00000000#32)) i = 1#1) : (0 : EReal) ≤ x i := by
  have e : broadcastInDim t ![] hb (constant (F := Ideal) S_ .f32 0x00000000#32) i = (0 : EReal) :=
    (broadcastInDim_apply _ _ _ _ (fun a => a.elim0) fun a => a.elim0).trans Ideal.ofBits_zero_f32
  rw [cmpf_apply, e] at h
  have h' : BitVec.ofBool (decide ((0 : EReal) ≤ x i)) = 1#1 := h
  by_cases hl : (0 : EReal) ≤ x i
  · exact hl
  · rw [decide_eq_false hl] at h'
    exact absurd h' (by decide)

/-- Arguments that meet the precondition meet, at every element, the condition under which the scaling distributes. -/
theorem distributes (a : Args) (h : fn (F := Ideal) a.x a.slot a.A a.B a.s = fun _ => 1#1) (t : Fin 32768) (o : Fin 2048) :
    (a.at t o).Distributes := by
  have split : ∀ e : Fin 8, IsReal (a.s (ix1 e)) ∧ ((0 : EReal) ≤ a.s (ix1 e) ∨
      ((∀ i, IsReal (a.x i)) ∧ (∀ i, IsReal (a.A i)) ∧ ∀ i, IsReal (a.B i))) := fun e => by
    have he := congrFun h (ix1 e)
    unfold fn fn_part1 at he
    obtain ⟨hs, hor⟩ := IntOp.andi_eq_one.1 he
    refine ⟨isReal_of_mask _ _ _ hs, ?_⟩
    rcases BitVec.eq_zero_or_eq_one (cmpf .oge a.s (broadcastInDim S8 ![] Facts.bcast_S_S8 (constant (F := Ideal) S_ .f32 0x00000000#32)) (ix1 e)) with hz | ho
    · right
      have hb := (show IntOp.ori (cmpf .oge a.s (broadcastInDim S8 ![] Facts.bcast_S_S8 (constant (F := Ideal) S_ .f32 0x00000000#32)) (ix1 e)) _ = 1#1 from hor)
      rw [hz] at hb
      have hb' := (BitVec.zero_or (x := _)).symm.trans hb
      rw [broadcastInDim_apply _ _ _ _ (fun b => b.elim0) fun b => b.elim0] at hb'
      obtain ⟨hxA, hB⟩ := IntOp.andi_eq_one.1 hb'
      obtain ⟨hx, hA⟩ := IntOp.andi_eq_one.1 hxA
      exact ⟨fun i => isReal_of_mask _ _ _ (Host.reduce_andi_all _ _ _ _ _ hx i),
        fun i => isReal_of_mask _ _ _ (Host.reduce_andi_all _ _ _ _ _ hA i),
        fun i => isReal_of_mask _ _ _ (Host.reduce_andi_all _ _ _ _ _ hB i)⟩
    · exact Or.inl (nonneg_of_mask _ _ _ ho)
  exact ⟨fun e => (split e).1, fun e => (split e).2.imp_right fun g =>
    ⟨fun k => g.1 _, fun e' k r => g.2.1 _, fun e' r => g.2.2 _⟩⟩

end Cert.Lora.Precondition

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceValue
public import proofs.«01_k».proof.Proof.Precondition
public import Idealize.ShloMosaic.Adequacy
public import Idealize.ShloMosaic.Init
public import Idealize.ShloMosaic.Lib.Quiescent

@[expose] public section

noncomputable section

namespace Cert.Proof

open Idealize.ShloMosaic Idealize.SL.Sem Cert.Lora

/-- The reference runs, leaves its arguments unchanged, and, having no counters, ends with every counter at zero. -/
theorem reference_frame : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- Two memories that agree on the arguments hold the same five argument arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    ReferenceValue.args m' c = KernelValue.args m c := by
  obtain ⟨h0, h1, h2, h3, h4⟩ := h
  unfold ReferenceValue.args KernelValue.args
  congr 1

/-- Under the precondition the idealized kernel and the reference, from memories that agree on the arguments, end with the
    same result array, the adapters taken one after another, and with their arguments unchanged. -/
theorem same_result : Cert.algebraic_KernelIdeal_ReferenceIdeal_pre_scaling_distributes := fun m g m' g' hpre hagree =>
  ⟨fun c => (KernelValue.args m c).perSlot,
    (θ_run Cert.KernelIdeal.defs _ _).mono
      (fun _ h c => ⟨(h c).1.trans ((KernelValue.final m c).trans
        ((KernelValue.args m c).concatenated_eq_perSlot (Precondition.distributes _ (hpre c)))), (h c).2⟩)
      (Cert.KernelIdeal.Value.run_blocks m g),
    (θ_run Cert.ReferenceIdeal.defs _ _).mono
      (fun _ h c => ⟨(h c).1.trans ((ReferenceValue.final m' c).trans
        (congrArg Args.perSlot (args_agree m m' c (hagree c)))), (h c).2⟩)
      (Cert.ReferenceIdeal.Value.run m' g')⟩

/-- The certificate's claim. -/
theorem claim : Cert.Claim :=
  ⟨Cert.Kernel.Gen.facts, Cert.KernelIdeal.Gen.facts, Cert.ReferenceIdeal.Gen.facts, Precondition.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    same_result⟩

end Cert.Proof

end
